-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S256x2048 : Shape := ⟨2, ![256, 2048]⟩
abbrev S1024x256 : Shape := ⟨2, ![1024, 256]⟩
abbrev S512x2048 : Shape := ⟨2, ![512, 2048]⟩
abbrev S512x256 : Shape := ⟨2, ![512, 256]⟩
abbrev S1x256 : Shape := ⟨2, ![1, 256]⟩
abbrev S256 : Shape := ⟨1, ![256]⟩

abbrev nBuf : Space → Nat
  | .hbm => 5
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S256x2048, .f32⟩
  | .hbm, ⟨3, _⟩ => ⟨S256x2048, .f32⟩
  | .hbm, ⟨4, _⟩ => ⟨S1024x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S256x2048, .f32⟩
  | .local _ .vmem, ⟨5, _⟩ => ⟨S256x2048, .f32⟩
  | .local _ .vmem, ⟨6, _⟩ => ⟨S512x256, .f32⟩
  | .local _ .vmem, ⟨7, _⟩ => ⟨S512x256, .f32⟩
  | .local _ .vmem, ⟨8, _⟩ => ⟨S256x2048, .bf16⟩
  | .local _ .vmem, ⟨9, _⟩ => ⟨S256x2048, .bf16⟩
  | .local _ .vmem, ⟨10, _⟩ => ⟨S1x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x2048 : Shape := ⟨2, ![1024, 2048]⟩
abbrev S256x2048 : Shape := ⟨2, ![256, 2048]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S256x2048, .f32⟩
  | .hbm, ⟨3, _⟩ => ⟨S256x2048, .f32⟩
  | .hbm, ⟨4, _⟩ => ⟨S256x4096, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .i1⟩
  | .hbm, ⟨11, _⟩ => ⟨S_, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x4096, .f32⟩
  | .hbm, ⟨17, _⟩ => ⟨S256x4096, .f32⟩
  | .hbm, ⟨18, _⟩ => ⟨S256x4096, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S1024x256, .f32⟩
  | .hbm, ⟨25, _⟩ => ⟨S1024x2048, .f32⟩
  | .hbm, ⟨26, _⟩ => ⟨S256x2048, .f32⟩
  | .hbm, ⟨27, _⟩ => ⟨S2048x256, .f32⟩
  | .hbm, ⟨28, _⟩ => ⟨S1024x256, .f32⟩
  | .hbm, ⟨29, _⟩ => ⟨S1024x256, .f32⟩
  | .hbm, ⟨30, _⟩ => ⟨S1024x2048, .f32⟩
  | .hbm, ⟨31, _⟩ => ⟨S256x2048, .f32⟩
  | .hbm, ⟨32, _⟩ => ⟨S2048x256, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1x256, .f32⟩
  | .hbm, ⟨37, _⟩ => ⟨S1024x256, .f32⟩
  | .hbm, ⟨38, _⟩ => ⟨S1024x256, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Block.lean ====
/-
  What one grid point of the kernel leaves behind, as terms over the point's input blocks.

  At the first point the body exponentiates the two weight blocks into the two scratch arrays and stores the logarithm of
  the weights' row sums in the third; at the second point it stores into none of them. At both it leaves in the output's
  buffer one payload of the two likelihood blocks and of what the three scratch arrays hold.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The four things the body keeps: the output block, the two exponentiated weight arrays, the row of log norms. -/
abbrev Kept (F : FTy → Type) : Type := Vec F S512x256 .f32 × Vec F S256x2048 .bf16 × Vec F S256x2048 .bf16 × Vec F S1x256 .f32

/-- What the body keeps, given the likelihood blocks `x0`, `x1` and the weight blocks `w0`, `w1` that filled the scratch. -/
def kept (x0 x1 : Vec F S512x2048 .f32) (w0 w1 : Vec F S256x2048 .f32) : Kept F :=
  (k0_pay6 x0 (k0_pay3 w0) x1 (k0_pay4 w1) (k0_pay5 w0 w1), k0_pay3 w0, k0_pay4 w1, k0_pay5 w0 w1)

/-- The first point keeps `kept` of its own four blocks. -/
theorem first (c : Dev nD) (t : Fin cfg0.N) (h : t.val % 2 = 0) :
    outsAt0 m c t.val t.isLt = kept (iblk m c 0 t) (iblk m c 1 t) (iblk m c 2 t) (iblk m c 3 t) := by
  rw [outsAt0_A m c t h]
  refine Prod.ext ?_ (Prod.ext ?_ (Prod.ext ?_ ?_)) <;> dsimp only [kept] <;> frame_out

/-- A later point whose scratch was filled from the weight blocks `w0`, `w1` keeps `kept` of its likelihood blocks and
    of those same weight blocks. -/
theorem later (c : Dev nD) (t : Fin cfg0.N) (h : ¬t.val % 2 = 0) (y0 y1 : Vec F S512x2048 .f32) (w0 w1 : Vec F S256x2048 .f32)
    (hp : outsAt0 m c (t.val - 1) (Nat.lt_of_le_of_lt (Nat.sub_le _ _) t.isLt) = kept y0 y1 w0 w1) :
    outsAt0 m c t.val t.isLt = kept (iblk m c 0 t) (iblk m c 1 t) w0 w1 := by
  rw [outsAt0_B m c t h, hp]
  refine Prod.ext ?_ (Prod.ext ?_ (Prod.ext ?_ ?_)) <;> dsimp only [kept]
  · frame_out
    simp only [read_unread_whole]
  · rfl
  · rfl
  · rfl

end Cert.KernelIdeal.Block

end
-- ==== Proof.KernelValue.lean ====
/-
  What the kernel's result array holds, over the extended reals: at sample `r` and node `n`, the logarithm of the two
  weighted sums of likelihoods, less the logarithm of the node's two sums of weights.
-/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ)

/-- The four arguments of the program on device `c`. -/
abbrev ll0 (c : Dev nD) : Vec Ideal S1024x2048 .f32 := m ((c : Thread nD τ).loc main_arg0)
abbrev ll1 (c : Dev nD) : Vec Ideal S1024x2048 .f32 := m ((c : Thread nD τ).loc main_arg1)
abbrev lw0 (c : Dev nD) : Vec Ideal S256x2048 .f32 := m ((c : Thread nD τ).loc main_arg2)
abbrev lw1 (c : Dev nD) : Vec Ideal S256x2048 .f32 := m ((c : Thread nD τ).loc main_arg3)

/-- The windows' index maps, point by point: the likelihoods' blocks follow the point, the weights' stay. -/
theorem idx : ∀ t : Fin grid0.N, win0_0.index t = ![t.val, 0] ∧ win0_1.index t = ![t.val, 0]
    ∧ win0_2.index t = ![0, 0] ∧ win0_3.index t = ![0, 0] := by decide +kernel

/-- Every point's weight blocks are the whole weight arrays. -/
theorem block_w0 (c : Dev nD) (t : Fin cfg0.N) : iblk m c 2 t = lw0 m c := by
  funext y
  have e := (idx t).2.2.1
  blk_ext [iblk, V, e]

/-- The second weight array, as the first. -/
theorem block_w1 (c : Dev nD) (t : Fin cfg0.N) : iblk m c 3 t = lw1 m c := by
  funext y
  have e := (idx t).2.2.2
  blk_ext [iblk, V, e]

/-- Point `t`'s likelihood blocks are rows `512·t` and on of the likelihood arrays. -/
theorem block_l0 (c : Dev nD) (t : Fin cfg0.N) (p : Fin 512) (k : Fin 2048) (r : Fin 1024) (hr : r.val = t.val * 512 + p.val) :
    (iblk m c 0 t : Vec Ideal S512x2048 .f32) (ix2 p k) = ll0 m c (ix2 r k) := by
  have e := (idx t).1
  blk_ext [iblk, V, e]

/-- The second likelihood array's blocks, as the first's. -/
theorem block_l1 (c : Dev nD) (t : Fin cfg0.N) (p : Fin 512) (k : Fin 2048) (r : Fin 1024) (hr : r.val = t.val * 512 + p.val) :
    (iblk m c 1 t : Vec Ideal S512x2048 .f32) (ix2 p k) = ll1 m c (ix2 r k) := by
  have e := (idx t).2.1
  blk_ext [iblk, V, e]

/-- After any point the body has kept `kept` of that point's likelihood blocks and of the whole weight arrays: the first
    point fills the scratch from them, the second finds it filled. -/
theorem after (c : Dev nD) (t : Fin cfg0.N) :
    outsAt0 m c t.val t.isLt = kept (iblk m c 0 t) (iblk m c 1 t) (lw0 m c) (lw1 m c) := by
  by_cases h : t.val % 2 = 0
  · rw [first m c t h, block_w0, block_w1]
  · have hN : t.val < 2 := lt_of_lt_of_eq t.isLt N_0
    have hp : (t.val - 1) % 2 = 0 := by omega
    let s : Fin cfg0.N := ⟨t.val - 1, Nat.lt_of_le_of_lt (Nat.sub_le _ _) t.isLt⟩
    have hs : outsAt0 m c s.val s.isLt = kept (iblk m c 0 s) (iblk m c 1 s) (lw0 m c) (lw1 m c) := by
      rw [first m c s hp, block_w0, block_w1]
    exact later m c t h _ _ _ _ hs

/-- The output block at sample `p` of the block and node `n`, over any likelihood blocks and weight arrays. -/
theorem out_apply (x0 x1 : Vec Ideal S512x2048 .f32) (w0 w1 : Vec Ideal S256x2048 .f32) (p : Fin 512) (n : Fin 256) :
    (kept x0 x1 w0 w1).1 (ix2 p n)
      = Ideal.log ((∑ k : Fin 2048, Ideal.exp (x0 (ix2 p k)) * Ideal.exp (w0 (ix2 n k)))
          + ∑ k : Fin 2048, Ideal.exp (x1 (ix2 p k)) * Ideal.exp (w1 (ix2 n k)))
        - Ideal.log ((∑ k : Fin 2048, Ideal.exp (w0 (ix2 n k))) + ∑ k : Fin 2048, Ideal.exp (w1 (ix2 n k))) := by
  dsimp only [kept]
  pointwise [k0_pay6, k0_pay5, k0_pay4, k0_pay3, k0_pay2, k0_pay1]

/-- The result array at sample `r` and node `n`. -/
theorem result_apply (c : Dev nD) (r : Fin 1024) (n : Fin 256) :
    (Value.G4 m c : Vec Ideal S1024x256 .f32) (ix2 r n)
      = Ideal.log ((∑ k : Fin 2048, Ideal.exp (ll0 m c (ix2 r k)) * Ideal.exp (lw0 m c (ix2 n k)))
          + ∑ k : Fin 2048, Ideal.exp (ll1 m c (ix2 r k)) * Ideal.exp (lw1 m c (ix2 n k)))
        - Ideal.log ((∑ k : Fin 2048, Ideal.exp (lw0 m c (ix2 n k))) + ∑ k : Fin 2048, Ideal.exp (lw1 m c (ix2 n k))) := by
  have hr := r.isLt
  have hn := n.isLt
  have hpt : Value.pt4Of (ix2 r n) = r.val / 512 := by
    show 1 * (r.val / 512 - 0) + 1 * (n.val / 256 - 0) = _
    omega
  have hlt : Value.pt4Of (ix2 r n) < cfg0.N := by
    rw [hpt, show cfg0.N = 2 from N_0]; omega
  have hloc : Value.loc4Of (ix2 r n) = ix2 (⟨r.val % 512, Nat.mod_lt _ (by decide)⟩ : Fin 512) n := by
    funext a
    match a with
    | ⟨0, _⟩ => rfl
    | ⟨1, _⟩ => exact Fin.ext (Nat.mod_eq_of_lt hn)
  unfold Value.G4
  rw [dif_pos hlt, ← Value.outsAt0_sweep m c _ hlt, after m c ⟨_, hlt⟩, hloc, out_apply]
  have hrow : r.val = (⟨Value.pt4Of (ix2 r n), hlt⟩ : Fin cfg0.N).val * 512 + (⟨r.val % 512, Nat.mod_lt _ (by decide)⟩ : Fin 512).val := by
    show r.val = Value.pt4Of (ix2 r n) * 512 + r.val % 512
    omega
  simp only [block_l0 m c _ _ _ r hrow, block_l1 m c _ _ _ r hrow]

end Cert.KernelIdeal.Block

end
-- ==== Proof.LogNorm.lean ====
/-
  The log norm of one row of weights, over the extended reals: shifting by the row's greatest weight before
  exponentiating, and adding it back after the logarithm, changes nothing. This holds for every row, those with
  infinite weights included, because the shift is 0 unless the greatest weight is finite.
-/
module

public import Idealize.ShloMosaic.PureOps.Ideal
public import Idealize.ShloMosaic.Lib.IdealHost

@[expose] public section

noncomputable section

namespace Cert.LogNorm

open Idealize.ShloMosaic

/-- The exponential of an extended real is not negative. -/
theorem exp_nonneg (x : EReal) : 0 ≤ Ideal.exp x := by
  induction x with
  | bot => exact le_rfl
  | top => exact le_top
  | coe r => exact EReal.coe_nonneg.2 (Real.exp_pos r).le

/-- A shifted exponential, for a finite shift. -/
theorem exp_sub_coe (x : EReal) (a : ℝ) : Ideal.exp x = (Real.exp a : EReal) * Ideal.exp (x - (a : EReal)) := by
  induction x with
  | bot => simp
  | top => simp [EReal.coe_mul_top_of_pos (Real.exp_pos a)]
  | coe r =>
    rw [← EReal.coe_sub, Ideal.exp_coe, Ideal.exp_coe, ← EReal.coe_mul, ← Real.exp_add]
    congr 2; ring

/-- A logarithm of a product with a positive real factor `exp a`, the other factor a positive real. -/
theorem log_exp_mul (a s : ℝ) (hs : 0 < s) :
    Ideal.log ((Real.exp a : EReal) * (s : EReal)) = Ideal.log (s : EReal) + (a : EReal) := by
  have h := mul_pos (Real.exp_pos a) hs
  rw [← EReal.coe_mul, Ideal.log_coe, Ideal.log_coe, if_neg h.not_ge, if_neg hs.not_ge, Real.log_mul (Real.exp_pos a).ne' hs.ne',
    Real.log_exp, add_comm, EReal.coe_add]

/-- A real factor, at least 0, goes through a sum of extended reals that are not negative. -/
theorem mul_sum_coe {ι : Type} (S : Finset ι) (a : ℝ) (ha : 0 ≤ a) (f : ι → EReal) (hf : ∀ i, 0 ≤ f i) :
    ((a : EReal) * ∑ i ∈ S, f i) = ∑ i ∈ S, (a : EReal) * f i := by
  classical
  induction S using Finset.induction_on with
  | empty => simp
  | insert i S hi ih =>
    rw [Finset.sum_insert hi, Finset.sum_insert hi, ← ih, EReal.left_distrib_of_nonneg (hf i) (Finset.sum_nonneg fun j _ => hf j)]

variable {ι : Type} [Fintype ι]

/-- The greatest weight of a row, `⊥` for an empty one: the fold by which the row's maximum is read. -/
def rowMax (w : ι → EReal) : EReal := Finset.fold max ⊥ w Finset.univ

/-- No entry exceeds the row's maximum. -/
theorem le_rowMax (w : ι → EReal) (i : ι) : w i ≤ rowMax w :=
  (Finset.le_fold_max _).2 (.inr ⟨i, Finset.mem_univ i, le_rfl⟩)

/-- A maximum above minus infinity is attained at some entry. -/
theorem exists_eq_rowMax (w : ι → EReal) (h : rowMax w ≠ ⊥) : ∃ i, w i = rowMax w := by
  rcases (Finset.le_fold_max (rowMax w)).1 (le_refl (rowMax w)) with hb | ⟨i, -, hi⟩
  · exact absurd (le_bot_iff.1 hb) h
  · exact ⟨i, le_antisymm (le_rowMax w i) hi⟩

/-- The constants of the reference, as float words. The word of minus infinity is the bottom. -/
theorem word_bot : Ideal.ofBits .f32 0xFF800000#32 = ⊥ := by simp [Ideal.ofBits, Ideal.ieee]
/-- The word of plus infinity is the top. -/
theorem word_top : Ideal.ofBits .f32 0x7F800000#32 = ⊤ := by simp [Ideal.ofBits, Ideal.ieee]
/-- The zero word is zero. -/
theorem word_zero : Ideal.ofBits .f32 0x00000000#32 = 0 := Ideal.ofBits_zero_f32

/-- The shift of a row: its greatest weight where that is finite, else 0. -/
def shift (w : ι → EReal) : EReal := if FloatOps.absf (F := Ideal) (φ := .f32) (rowMax w) < ⊤ then rowMax w else 0

/-- The shifted log norm of a row is the plain one. -/
theorem log_norm (w : ι → EReal) :
    Ideal.log (∑ i, Ideal.exp (w i - shift w)) + shift w = Ideal.log (∑ i, Ideal.exp (w i)) := by
  unfold shift
  split_ifs with h
  · -- the greatest weight is finite
    generalize hM : rowMax w = M at h
    induction M with
    | bot => exact absurd h (by simp [Ideal.absf_def])
    | top => exact absurd h (by simp [Ideal.absf_def])
    | coe a =>
      obtain ⟨j, hj⟩ := exists_eq_rowMax w (by rw [hM]; exact EReal.coe_ne_bot a)
      rw [hM] at hj
      have hle : ∀ i, Ideal.exp (w i - (a : EReal)) ≤ 1 := fun i => by
        have hi := le_rowMax w i
        rw [hM] at hi
        revert hi
        induction w i with
        | bot => intro _; simp
        | top => intro hi; exact absurd (top_le_iff.1 hi) (EReal.coe_ne_top a)
        | coe r =>
          intro hi
          rw [← EReal.coe_sub, Ideal.exp_coe, ← EReal.coe_one, EReal.coe_le_coe_iff, Real.exp_le_one_iff]
          exact sub_nonpos.2 (EReal.coe_le_coe_iff.1 hi)
      have hone : Ideal.exp (w j - (a : EReal)) = 1 := by
        rw [hj, ← EReal.coe_sub, Ideal.exp_coe, sub_self, Real.exp_zero, EReal.coe_one]
      have hlow : (1 : EReal) ≤ ∑ i, Ideal.exp (w i - (a : EReal)) :=
        hone ▸ Finset.single_le_sum (f := fun i => Ideal.exp (w i - (a : EReal))) (fun i _ => exp_nonneg _) (Finset.mem_univ j)
      have hup : ∑ i, Ideal.exp (w i - (a : EReal)) ≤ ((Fintype.card ι : ℝ) : EReal) := by
        refine (Finset.sum_le_sum fun i _ => hle i).trans ?_
        simp
      rw [Finset.sum_congr rfl fun i _ => exp_sub_coe (w i) a,
        ← mul_sum_coe Finset.univ _ (Real.exp_pos a).le _ fun i => exp_nonneg (w i - (a : EReal))]
      generalize (∑ i, Ideal.exp (w i - (a : EReal))) = s at hlow hup
      induction s with
      | bot => exact absurd hlow (not_le.2 (EReal.coe_one ▸ EReal.bot_lt_coe 1))
      | top => exact absurd (top_le_iff.1 hup) (EReal.coe_ne_top _)
      | coe s => exact (log_exp_mul a s (lt_of_lt_of_le one_pos (by exact_mod_cast hlow))).symm
  · -- it is not: no shift
    simp

/-- Two rows of 2048 weights side by side, as one row of 4096. -/
def beside (a b : Fin 2048 → EReal) (x : Fin 4096) : EReal :=
  if h : x.val < 2048 then a ⟨x.val, h⟩ else b ⟨x.val - 2048, by omega⟩

/-- A sum over two rows side by side is the two rows' sums. -/
theorem sum_beside (a b : Fin 2048 → EReal) (f : EReal → EReal) :
    ∑ x, f (beside a b x) = (∑ k, f (a k)) + ∑ k, f (b k) := by
  have e : ∀ g : Fin (2048 + 2048) → EReal, (∑ x, g x) = (∑ k, g (Fin.castAdd 2048 k)) + ∑ k, g (Fin.natAdd 2048 k) :=
    fun g => Fin.sum_univ_add g
  have hl : ∀ k : Fin 2048, beside a b (Fin.castAdd 2048 k) = a k := fun k => dif_pos k.isLt
  have hr : ∀ k : Fin 2048, beside a b (Fin.natAdd 2048 k) = b k := fun k => by
    unfold beside
    rw [dif_neg (by rw [Fin.val_natAdd]; omega)]
    exact congrArg b (Fin.ext (by show (Fin.natAdd 2048 k).val - 2048 = k.val; rw [Fin.val_natAdd]; omega))
  refine (e fun x => f (beside a b x)).trans ?_
  simp only [hl, hr]

/-- The shifted log norm of two rows side by side, its sum taken row by row, is the plain one. -/
theorem log_norm_beside (a b : Fin 2048 → EReal) :
    Ideal.log ((∑ k, Ideal.exp (a k - shift (beside a b))) + ∑ k, Ideal.exp (b k - shift (beside a b))) + shift (beside a b)
      = Ideal.log ((∑ k, Ideal.exp (a k)) + ∑ k, Ideal.exp (b k)) := by
  rw [← sum_beside a b fun v => Ideal.exp (v - shift (beside a b)), ← sum_beside a b Ideal.exp]
  exact log_norm (beside a b)

end Cert.LogNorm

end
-- ==== Proof.lean ====
/-
  The certificate: the generated frames of the three programs, and the equation of the kernel's result array
  (`Proof/KernelValue.lean`) with the reference's, whose shifted log norm is the plain one (`Proof/LogNorm.lean`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.LogNorm
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference runs to its end, leaves its arguments as they were and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results: at every sample and node both are the log of
    the weighted sum of likelihoods less the log norm of the node's weights, infinite entries included. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  clean_types
  funext i
  obtain ⟨r, n, rfl⟩ : ∃ (r : Fin 1024) (n : Fin 256), i = ix2 r n := ⟨i 0, i 1, by funext a; fin_cases a <;> rfl⟩
  refine Eq.trans ?_ (Cert.KernelIdeal.Block.result_apply m c r n).symm
  pointwise
  simp (disch := word_cmp_side) only [hlo_ix, id_eq]
  rw [Cert.LogNorm.word_bot, Cert.LogNorm.word_top]
  have e2 := (hagree c).2.2.1
  have e3 := (hagree c).2.2.2
  generalize hA : m' ((c.tc : Thread Cert.ReferenceIdeal.nD Cert.ReferenceIdeal.τ).loc Cert.ReferenceIdeal.main_arg2) = A at e2 ⊢
  generalize hB : m' ((c.tc : Thread Cert.ReferenceIdeal.nD Cert.ReferenceIdeal.τ).loc Cert.ReferenceIdeal.main_arg3) = B at e3 ⊢
  subst e2 e3
  have e0 : constant (F := Ideal) Cert.ReferenceIdeal.S_ .f32 0x00000000#32 ix0 = (0 : EReal) := Cert.LogNorm.word_zero
  rw [e0]
  exact congrArg₂ (fun u v : EReal => u - v) rfl
    (Cert.LogNorm.log_norm_beside (fun k => Cert.KernelIdeal.Block.lw0 m c (ix2 n k)) fun k => Cert.KernelIdeal.Block.lw1 m c (ix2 n k))

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
